-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x8192 : Shape := ⟨3, ![16, 128, 8192]⟩
abbrev S16x8192x128 : Shape := ⟨3, ![16, 8192, 128]⟩
abbrev S4x128x4096 : Shape := ⟨3, ![4, 128, 4096]⟩
abbrev S4x4096x128 : Shape := ⟨3, ![4, 4096, 128]⟩
abbrev S1x128x4096 : Shape := ⟨3, ![1, 128, 4096]⟩
abbrev S128x4096 : Shape := ⟨2, ![128, 4096]⟩
abbrev S4096x128 : Shape := ⟨2, ![4096, 128]⟩
abbrev S1x4096x128 : Shape := ⟨3, ![1, 4096, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x128x8192, .f32⟩
  | .hbm, ⟨1, _⟩ => ⟨S16x8192x128, .f32⟩
  | .local _ .vmem, ⟨0, _⟩ => ⟨S4x128x4096, .f32⟩
  | .local _ .vmem, ⟨1, _⟩ => ⟨S4x128x4096, .f32⟩
  | .local _ .vmem, ⟨2, _⟩ => ⟨S4x4096x128, .f32⟩
  | .local _ .vmem, ⟨3, _⟩ => ⟨S4x4096x128, .f32⟩
  | _, _ => ⟨S16x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S16x128x8192 : Shape := ⟨3, ![16, 128, 8192]⟩
abbrev S_ : Shape := ⟨0, ![]⟩
abbrev S95 : Shape := ⟨1, ![95]⟩
abbrev S1 : Shape := ⟨1, ![1]⟩
abbrev S96 : Shape := ⟨1, ![96]⟩
abbrev S96x1 : Shape := ⟨2, ![96, 1]⟩
abbrev S256 : Shape := ⟨1, ![256]⟩
abbrev S1x256 : Shape := ⟨2, ![1, 256]⟩
abbrev S96x256 : Shape := ⟨2, ![96, 256]⟩
abbrev S96x256x1 : Shape := ⟨3, ![96, 256, 1]⟩
abbrev S1x1x1 : Shape := ⟨3, ![1, 1, 1]⟩
abbrev S16x128x96x256 : Shape := ⟨4, ![16, 128, 96, 256]⟩
abbrev S16x96x128x256 : Shape := ⟨4, ![16, 96, 128, 256]⟩
abbrev S24576 : Shape := ⟨1, ![24576]⟩
abbrev S16x128x24576 : Shape := ⟨3, ![16, 128, 24576]⟩
abbrev S24576x1 : Shape := ⟨2, ![24576, 1]⟩
abbrev S8192 : Shape := ⟨1, ![8192]⟩
abbrev S1x1x8192 : Shape := ⟨3, ![1, 1, 8192]⟩
abbrev S16x8192x128 : Shape := ⟨3, ![16, 8192, 128]⟩

abbrev nBuf : Space → Nat
  | .hbm => 91
  | .vmem => 0
  | .smem => 0
  | _ => 0

abbrev bufTy : (tb : Table) → Fin (tcTables nBuf tb) → BufTy
  | .hbm, ⟨0, _⟩ => ⟨S16x128x8192, .f32⟩
  | .hbm, ⟨1, _⟩ => ⟨S_, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S95, .f32⟩
  | .hbm, ⟨9, _⟩ => ⟨S_, .f32⟩
  | .hbm, ⟨10, _⟩ => ⟨S95, .f32⟩
  | .hbm, ⟨11, _⟩ => ⟨S95, .f32⟩
  | .hbm, ⟨12, _⟩ => ⟨S1, .f32⟩
  | .hbm, ⟨13, _⟩ => ⟨S_, .f32⟩
  | .hbm, ⟨14, _⟩ => ⟨S95, .f32⟩
  | .hbm, ⟨15, _⟩ => ⟨S95, .f32⟩
  | .hbm, ⟨16, _⟩ => ⟨S95, .f32⟩
  | .hbm, ⟨17, _⟩ => ⟨S95, .f32⟩
  | .hbm, ⟨18, _⟩ => ⟨S1, .f32⟩
  | .hbm, ⟨19, _⟩ => ⟨S95, .f32⟩
  | .hbm, ⟨20, _⟩ => ⟨S95, .f32⟩
  | .hbm, ⟨21, _⟩ => ⟨S95, .f32⟩
  | .hbm, ⟨22, _⟩ => ⟨S1, .f32⟩
  | .hbm, ⟨23, _⟩ => ⟨S96, .f32⟩
  | .hbm, ⟨24, _⟩ => ⟨S96, .f32⟩
  | .hbm, ⟨25, _⟩ => ⟨S96, .i32⟩
  | .hbm, ⟨26, _⟩ => ⟨S96x1, .i32⟩
  | .hbm, ⟨27, _⟩ => ⟨S256, .i32⟩
  | .hbm, ⟨28, _⟩ => ⟨S1x256, .i32⟩
  | .hbm, ⟨29, _⟩ => ⟨S96x256, .i32⟩
  | .hbm, ⟨30, _⟩ => ⟨S96x256, .i32⟩
  | .hbm, ⟨31, _⟩ => ⟨S96x256, .i32⟩
  | .hbm, ⟨32, _⟩ => ⟨S_, .i32⟩
  | .hbm, ⟨33, _⟩ => ⟨S96x256, .i32⟩
  | .hbm, ⟨34, _⟩ => ⟨S96x256, .i1⟩
  | .hbm, ⟨35, _⟩ => ⟨S_, .i32⟩
  | .hbm, ⟨36, _⟩ => ⟨S96x256, .i32⟩
  | .hbm, ⟨37, _⟩ => ⟨S96x256, .i32⟩
  | .hbm, ⟨38, _⟩ => ⟨S96x256, .i32⟩
  | .hbm, ⟨39, _⟩ => ⟨S96x256x1, .i32⟩
  | .hbm, ⟨40, _⟩ => ⟨S1, .i32⟩
  | .hbm, ⟨41, _⟩ => ⟨S_, .i32⟩
  | .hbm, ⟨42, _⟩ => ⟨S96x256x1, .i32⟩
  | .hbm, ⟨43, _⟩ => ⟨S96x256x1, .i1⟩
  | .hbm, ⟨44, _⟩ => ⟨S1x1x1, .i32⟩
  | .hbm, ⟨45, _⟩ => ⟨S96x256x1, .i32⟩
  | .hbm, ⟨46, _⟩ => ⟨S96x256x1, .i1⟩
  | .hbm, ⟨47, _⟩ => ⟨S96x256x1, .i1⟩
  | .hbm, ⟨48, _⟩ => ⟨S_, .i1⟩
  | .hbm, ⟨49, _⟩ => ⟨S96x256, .i1⟩
  | .hbm, ⟨50, _⟩ => ⟨S16x128x96x256, .f32⟩
  | .hbm, ⟨51, _⟩ => ⟨S16x128x96x256, .i1⟩
  | .hbm, ⟨52, _⟩ => ⟨S_, .f32⟩
  | .hbm, ⟨53, _⟩ => ⟨S16x128x96x256, .f32⟩
  | .hbm, ⟨54, _⟩ => ⟨S16x128x96x256, .f32⟩
  | .hbm, ⟨55, _⟩ => ⟨S16x96x128x256, .f32⟩
  | .hbm, ⟨56, _⟩ => ⟨S24576, .i32⟩
  | .hbm, ⟨57, _⟩ => ⟨S16x128x96x256, .f32⟩
  | .hbm, ⟨58, _⟩ => ⟨S16x128x24576, .f32⟩
  | .hbm, ⟨59, _⟩ => ⟨S_, .f32⟩
  | .hbm, ⟨60, _⟩ => ⟨S16x128x8192, .f32⟩
  | .hbm, ⟨61, _⟩ => ⟨S_, .i32⟩
  | .hbm, ⟨62, _⟩ => ⟨S24576, .i32⟩
  | .hbm, ⟨63, _⟩ => ⟨S24576, .i1⟩
  | .hbm, ⟨64, _⟩ => ⟨S_, .i32⟩
  | .hbm, ⟨65, _⟩ => ⟨S24576, .i32⟩
  | .hbm, ⟨66, _⟩ => ⟨S24576, .i32⟩
  | .hbm, ⟨67, _⟩ => ⟨S24576, .i32⟩
  | .hbm, ⟨68, _⟩ => ⟨S24576x1, .i32⟩
  | .hbm, ⟨69, _⟩ => ⟨S16x128x8192, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S24576, .f32⟩
  | .hbm, ⟨74, _⟩ => ⟨S_, .i32⟩
  | .hbm, ⟨75, _⟩ => ⟨S24576, .i32⟩
  | .hbm, ⟨76, _⟩ => ⟨S24576, .i1⟩
  | .hbm, ⟨77, _⟩ => ⟨S_, .i32⟩
  | .hbm, ⟨78, _⟩ => ⟨S24576, .i32⟩
  | .hbm, ⟨79, _⟩ => ⟨S24576, .i32⟩
  | .hbm, ⟨80, _⟩ => ⟨S24576, .i32⟩
  | .hbm, ⟨81, _⟩ => ⟨S24576x1, .i32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S1x1x8192, .f32⟩
  | .hbm, ⟨88, _⟩ => ⟨S16x128x8192, .f32⟩
  | .hbm, ⟨89, _⟩ => ⟨S16x128x8192, .f32⟩
  | .hbm, ⟨90, _⟩ => ⟨S16x8192x128, .f32⟩
  | _, _ => ⟨S16x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst_0 : Ref sig .tc := ⟨.hbm, 59, rfl⟩
abbrev main_v14 : Ref sig .tc := ⟨.hbm, 60, rfl⟩
abbrev main_c_1 : Ref sig .tc := ⟨.hbm, 61, rfl⟩
abbrev main_v15 : Ref sig .tc := ⟨.hbm, 62, rfl⟩
abbrev main_v16 : Ref sig .tc := ⟨.hbm, 63, rfl⟩
abbrev main_c_2 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_3 : Ref sig .tc := ⟨.hbm, 70, rfl⟩
abbrev main_v22 : Ref sig .tc := ⟨.hbm, 71, rfl⟩
abbrev main_cst_4 : Ref sig .tc := ⟨.hbm, 72, rfl⟩
abbrev main_v23 : Ref sig .tc := ⟨.hbm, 73, rfl⟩
abbrev main_c_5 : Ref sig .tc := ⟨.hbm, 74, rfl⟩
abbrev main_v24 : Ref sig .tc := ⟨.hbm, 75, rfl⟩
abbrev main_v25 : Ref sig .tc := ⟨.hbm, 76, rfl⟩
abbrev main_c_6 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_7 : Ref sig .tc := ⟨.hbm, 83, rfl⟩
abbrev main_call3_v0 : Ref sig .tc := ⟨.hbm, 84, rfl⟩
abbrev main_call3_v1 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩

abbrev nD : Nat := 1
abbrev τ : Topo := Topo.v7x

variable {F : FTy → Type} [FloatOps F]
-- ==== Proof.KernelValue.lean ====
/- What the kernel leaves in its result array: the argument with its last two axes exchanged. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pipeline (Dat)

/-- An array of 16 batches of 128 channels over 8192 places, written as 16 batches of 8192 places over 128 channels:
    the element at (batch, place, channel) is the argument's at (batch, channel, place). -/
def turned (x : S16x128x8192.Idx → EReal) : S16x8192x128.Idx → EReal := fun i => x (ix3 (i 0) (i 2) (i 1))

/-- The same exchange of the last two axes on one grid point's block of four batch rows. -/
def turnedBlock (x : Vec Ideal S4x128x4096 .f32) : Vec Ideal S4x4096x128 .f32 := fun y => x (ix3 (y 0) (y 2) (y 1))

/-- One batch row of the exchanged block: the place where a rectangle of one batch row, all places and all channels
    puts its element `z` holds the argument's element at that row, `z`'s channel and `z`'s place. -/
theorem row (x : Vec Ideal S4x128x4096 .f32) (n : ℕ) (hn : n < 4) (inb)
    (z : (Rect.unit (s := S4x4096x128) ![n, 0, 0] S1x4096x128.size inb).shape.Idx) :
    x (ix3 ⟨n, hn⟩ (z 2) (z 1)) = turnedBlock x ((Rect.unit (s := S4x4096x128) ![n, 0, 0] S1x4096x128.size inb).emb z) := by
  have h0 : (z 0).val = 0 := Nat.lt_one_iff.mp (z 0).isLt
  have e (a : Fin 3) := Rect.idx_unit_val (s := S4x4096x128) ![n, 0, 0] S1x4096x128.size inb z a
  unfold turnedBlock
  congr 1
  refine congr (congr (congrArg ix3 ?_) ?_) ?_ <;> apply Fin.ext
  · exact (show n = n + (z 0).val by omega).trans (e 0).symm
  · exact (show (z 2).val = 0 + (z 2).val by omega).trans (e 2).symm
  · exact (show (z 1).val = 0 + (z 1).val by omega).trans (e 1).symm

/-- The body's four stores, one per batch row, together leave the block with its last two axes exchanged. -/
theorem block_value (x : Vec Ideal S4x128x4096 .f32) : out0_1 x = turnedBlock x := by
  funext y
  refine View.canon_apply_of_pieces (turnedBlock x) _ ?_ y (cover0_1 _ _ _ _ y)
  intro p hp z
  simp only [List.mem_cons, List.not_mem_nil, or_false] at hp
  rcases hp with rfl | rfl | rfl | rfl
  · show k0_pay4 (View.ld x r0_6) z = _
    pointwise [k0_pay4]
    exact row x 3 (by decide) _ z
  · show k0_pay3 (View.ld x r0_4) z = _
    pointwise [k0_pay3]
    exact row x 2 (by decide) _ z
  · show k0_pay2 (View.ld x r0_2) z = _
    pointwise [k0_pay2]
    exact row x 1 (by decide) _ z
  · show k0_pay1 (View.ld x r0_0) z = _
    pointwise [k0_pay1]
    exact row x 0 (by decide) _ z

variable (m : (ℓ : Loc nD τ sig) → Buf (Elt Ideal) ℓ)

/-- The result array after the run is the argument with its last two axes exchanged: every index lies in the block
    of some grid point, and that point wrote there the argument's element. -/
theorem final_value (c : Dev nD) :
    (dats m 0 c).arrAt 1 cfg0.N = turned (m ((c : Thread nD τ).loc main_arg0)) := by
  refine (dats m 0 c).arrAt_eq_of_covers 1 _ (by decide +kernel) fun t hf y => ?_
  blk_simp
  rw [after0_1, block_value]
  have idx : ∀ t : Fin grid0.N, win0_0.index t = ![(grid0.coords t 0).val, 0, (grid0.coords t 1).val]
      ∧ win0_1.index t = ![(grid0.coords t 0).val, (grid0.coords t 1).val, 0] := by decide +kernel
  unfold turnedBlock turned
  blk_ext [iblk, V, idx t]

end Cert.KernelIdeal.Tiles

end
-- ==== Proof.RefTerm.lean ====
/- The reference's result term cut into named pieces: the window starts before rounding, the index words, the windows
   taken out, the values scattered back, the two scatters, the quotient. Each piece is the part of the printed
   program that its name says, at the extended reals. -/
module

public import proofs.«01_k».proof.Proof.Gen.ReferenceIdeal.Run
public import Idealize.ShloMosaic.Lib.Pointwise

@[expose] public section

set_option maxRecDepth 16384

noncomputable section

namespace Cert.ReferenceIdeal.Pieces

open Cert.ReferenceIdeal Cert.ReferenceIdeal.Gen Idealize.ShloMosaic Idealize.ShloMosaic.TcCoe Idealize.SL.Sem

/-- The numbers 0/95, 1/95, …, 94/95. -/
def steps : FVec Ideal S95 .f32 :=
  Host.divf (sitofp .f32 (iotaInDim S95 32 0)) (broadcastInDim S95 ![] bcast_S_S95 (constant S_ .f32 0x42BE0000#32))

/-- The 96 evenly spaced numbers from 0 to 7936, the last one set to 7936 itself. -/
def spaced : FVec Ideal S96 .f32 :=
  concatenate S96 0 [⟨S95, addf
      (mulf (broadcastInDim S95 ![0] bcast_S1_S95_0 (shapeCast S1 (id (constant S_ .f32 0x00000000#32)) shapeCasts_S_S1))
        (subf (broadcastInDim S95 ![] bcast_S_S95 (constant S_ .f32 0x3F800000#32)) steps))
      (mulf (broadcastInDim S95 ![0] bcast_S1_S95_0 (shapeCast S1 (sitofp .f32 (constantI S_ 32 7936#32)) shapeCasts_S_S1)) steps)⟩,
    ⟨S1, broadcastInDim S1 ![] bcast_S_S1 (sitofp .f32 (constantI S_ 32 7936#32))⟩] concatenates_S95_S1_S96_d0

/-- The place that entry `t` of window `p` reads, as a word: the rounded start plus the offset. -/
def places : IVec S96x256 32 :=
  addi (broadcastInDim S96x256 ![0, 1] bcast_S96x1_S96x256_0_1
      (broadcastInDim S96x1 ![0] bcast_S96_S96x1_0 (fptosi 32 (Host.roundeven spaced))))
    (broadcastInDim S96x256 ![0, 1] bcast_S1x256_S96x256_0_1 (broadcastInDim S1x256 ![1] bcast_S256_S1x256_1 (iotaInDim S256 32 0)))

/-- The places of all windows in one row. -/
def row : IVec S24576 32 := shapeCast S24576 places shapeCasts_S96x256_S24576

/-- The row of places with 8192 added where a word is negative, one word per line: the scatters' indices. -/
def rowIdx : IVec S24576x1 32 :=
  broadcastInDim S24576x1 ![0] bcast_S24576_S24576x1_0
    (select (cmpi .slt row (broadcastInDim S24576 ![] bcast_S_S24576 (constantI S_ 32 0#32)))
      (addi row (broadcastInDim S24576 ![] bcast_S_S24576 (constantI S_ 32 8192#32))) row)

/-- The windows' places with 8192 added where a word is negative: the gather's indices. -/
def takeIdx : IVec S96x256x1 32 :=
  broadcastInDim S96x256x1 ![0, 1] bcast_S96x256_S96x256x1_0_1
    (select (cmpi .slt places (broadcastInDim S96x256 ![] bcast_S_S96x256 (constantI S_ 32 0#32)))
      (addi places (broadcastInDim S96x256 ![] bcast_S_S96x256 (constantI S_ 32 8192#32))) places)

/-- Whether a gather index lies in the array. -/
def inside : IVec S96x256 1 :=
  Host.reduce IntOp.andi
    (andi (cmpi .sge takeIdx (broadcastInDim S96x256x1 ![] bcast_S_S96x256x1 (constantI S_ 32 0#32)))
      (cmpi .sle takeIdx (broadcastInDim S96x256x1 ![0, 1, 2] bcast_S1x1x1_S96x256x1_0_1_2
        (broadcastInDim S1x1x1 ![2] bcast_S1_S1x1x1_2 (constantI S1 32 8191#32)))))
    (constantI S_ 1 1#1) reducesTo_S96x256x1_S96x256_d2 h_S_

/-- The windows taken out of the argument. -/
def taken (x : FVec Ideal S16x128x8192 .f32) : FVec Ideal S16x128x96x256 .f32 :=
  select (broadcastInDim S16x128x96x256 ![2, 3] bcast_S96x256_S16x128x96x256_2_3 inside)
    (Host.gather gather_S16x128x8192_S96x256x1_S16x128x96x256_01_2_n_n_2_2_161281 x takeIdx)
    (broadcastInDim S16x128x96x256 ![] bcast_S_S16x128x96x256 (constant S_ .f32 0x7FC00000#32))

/-- The windows' values in one row per batch and channel: what is scattered back. -/
def values (x : FVec Ideal S16x128x8192 .f32) : FVec Ideal S16x128x24576 .f32 :=
  shapeCast S16x128x24576
    (transpose S16x128x96x256 [0, 2, 1, 3]
      (transpose S16x96x128x256 [0, 2, 1, 3] (taken x) transposes_S16x128x96x256_S16x96x128x256_0_2_1_3)
      transposes_S16x96x128x256_S16x128x96x256_0_2_1_3)
    shapeCasts_S16x128x96x256_S16x128x24576

/-- The sum, at each place, of the values scattered to it. -/
def sums (x : FVec Ideal S16x128x8192 .f32) : FVec Ideal S16x128x8192 .f32 :=
  Host.scatterAdd scatter_S16x128x8192_S24576x1_S16x128x24576_01_2_2_1
    (broadcastInDim S16x128x8192 ![] bcast_S_S16x128x8192 (constant S_ .f32 0x00000000#32)) rowIdx (values x)

/-- The number of entries scattered to each place. -/
def counts : FVec Ideal S8192 .f32 :=
  Host.scatterAdd scatter_S8192_S24576x1_S24576_n_0_0_1
    (broadcastInDim S8192 ![] bcast_S_S8192 (constant S_ .f32 0x00000000#32)) rowIdx
    (broadcastInDim S24576 ![] bcast_S_S24576 (constant S_ .f32 0x3F800000#32))

/-- The quotient of the sums by the counts (a count below one taken as one), its last two axes exchanged. -/
def result (x : FVec Ideal S16x128x8192 .f32) : FVec Ideal S16x8192x128 .f32 :=
  transpose S16x8192x128 [0, 2, 1]
    (Host.divf (sums x) (broadcastInDim S16x128x8192 ![0, 1, 2] bcast_S1x1x8192_S16x128x8192_0_1_2
      (broadcastInDim S1x1x8192 ![2] bcast_S8192_S1x1x8192_2
        (maximumf (broadcastInDim S8192 ![] bcast_S_S8192 (id (constant S_ .f32 0x3F800000#32))) counts))))
    transposes_S16x128x8192_S16x8192x128_0_2_1

/-- The reference's result is the composition of the pieces above at its argument. -/
theorem out_eq (m : (ℓ : Loc nD τ sig) → Buf (Elt Ideal) ℓ) (c : Dev nD) :
    Cert.ReferenceIdeal.Value.res_out0 m c = result (m ((c.tc : Thread nD τ).loc main_arg0)) := rfl

end Cert.ReferenceIdeal.Pieces

end
-- ==== Proof.Starts.lean ====
/- Where the windows of the reference start, as natural numbers, and the two facts about them that the reference's
   value rests on: rounding 7936·k/95 to the nearest integer gives the start, and every place lies in some window. -/
module

public import Idealize.ShloMosaic.PureOps
public import Idealize.ShloMosaic.Lib.Pointwise
public import Mathlib.Tactic.Linarith

@[expose] public section

noncomputable section

namespace Cert.Windows

open Idealize.ShloMosaic

/-- The start of window `k`: 7936·k/95 rounded to the nearest natural number. -/
def start (k : ℕ) : ℕ := (15872 * k + 95) / 190

/-- The place that entry `q` of the windows laid end to end (96 windows of 256 entries) reads: the start of the
    entry's window plus the entry's offset in it. -/
def pos (q : ℕ) : ℕ := start (q / 256) + q % 256

/-- The last window starts 256 places before the end, so no start is beyond 7936. -/
theorem start_le (k : ℕ) (hk : k < 96) : start k ≤ 7936 := by unfold start; omega

/-- Every entry of the windows reads a place inside the array. -/
theorem pos_lt (q : ℕ) (hq : q < 24576) : pos q < 8192 := by
  have := start_le (q / 256) (by omega)
  unfold pos; omega

/-- Every place is read by at least one entry. -/
theorem pos_onto (l : ℕ) (hl : l < 8192) : ∃ q < 24576, pos q = l := by
  rcases Nat.lt_or_ge 7936 l with h | h
  · refine ⟨95 * 256 + (l - 7936), by omega, ?_⟩
    have e1 : (95 * 256 + (l - 7936)) / 256 = 95 := by omega
    have e2 : (95 * 256 + (l - 7936)) % 256 = l - 7936 := by omega
    unfold pos; rw [e1, e2]; unfold start; omega
  · have h1 : start (l * 95 / 7936) ≤ l := by unfold start; omega
    have h2 : l < start (l * 95 / 7936) + 256 := by unfold start; omega
    have hk : l * 95 / 7936 ≤ 95 := by omega
    generalize l * 95 / 7936 = k at h1 h2 hk
    refine ⟨k * 256 + (l - start k), by omega, ?_⟩
    have e1 : (k * 256 + (l - start k)) / 256 = k := by omega
    have e2 : (k * 256 + (l - start k)) % 256 = l - start k := by omega
    unfold pos; rw [e1, e2]; omega

/-- A real number nearer than one half to an integer rounds, half to even, to that integer. -/
theorem roundHalfEven_near (r : ℝ) (n : ℤ) (h : |r - n| < 1 / 2) : Ideal.roundHalfEven r = n := by
  obtain ⟨h1, h2⟩ := abs_lt.mp h
  unfold Ideal.roundHalfEven
  rcases le_or_gt (n : ℝ) r with hr | hr
  · have hf : ⌊r⌋ = n := Int.floor_eq_iff.mpr ⟨hr, by linarith⟩
    simp only [hf]
    rw [if_pos (by linarith)]
  · have hf : ⌊r⌋ = n - 1 := Int.floor_eq_iff.mpr ⟨by push_cast; linarith, by push_cast; linarith⟩
    simp only [hf]
    push_cast
    rw [if_neg (by linarith), if_pos (by linarith)]
    ring

/-- Rounded and converted to a 32-bit word, a real number nearer than one half to a natural number below 2³¹ is
    the word of that natural number. -/
theorem word_near (r : ℝ) (n : ℕ) (hn : n < 2 ^ 31) (h : |r - n| < 1 / 2) :
    Ideal.fptosi 32 (Ideal.liftRound Ideal.roundHalfEven (r : EReal)) = BitVec.ofNat 32 n := by
  rw [Ideal.liftRound_coe, roundHalfEven_near r n (by exact_mod_cast h)]
  unfold Ideal.fptosi
  rw [Ideal.toIntClamped_coe, if_pos (by exact_mod_cast Int.natCast_nonneg n), Int.floor_intCast]
  have : max (-((2 ^ (32 - 1) : ℕ) : ℤ)) (min (((2 ^ (32 - 1) : ℕ) : ℤ) - 1) (n : ℤ)) = n := by
    norm_num at hn ⊢; omega
  rw [this]
  exact BitVec.ofInt_natCast ..

/-- The number 7936·k/95 is nearer than one half to the start of window `k`. -/
theorem near_start (k : ℕ) : |(7936 * (k / 95) : ℝ) - (start k : ℕ)| < 1 / 2 := by
  have h1 : 190 * start k ≤ 15872 * k + 95 := by unfold start; omega
  have h2 : 15872 * k + 95 < 190 * start k + 190 := by unfold start; omega
  have h3 : 190 * start k ≠ 15872 * k + 95 := by omega
  have h1' : (190 * start k : ℝ) < 15872 * k + 95 := by exact_mod_cast lt_of_le_of_ne h1 h3
  have h2' : (15872 * k + 95 : ℝ) < 190 * start k + 190 := by exact_mod_cast h2
  rw [abs_lt]
  constructor <;> linarith

end Cert.Windows

end
-- ==== Proof.RefIndex.lean ====
/- The index words of the reference: entry `q` of the windows laid end to end reads the place `pos q`, and the masks
   and the additions for negative words change nothing. -/
module

public import proofs.«01_k».proof.Proof.RefTerm
public import proofs.«01_k».proof.Proof.Starts
public import Idealize.ShloMosaic.Lib.ReduceAll
public import Idealize.ShloMosaic.Lib.Routing.OpsPair

@[expose] public section

set_option maxRecDepth 16384

noncomputable section

namespace Cert.ReferenceIdeal.Pieces

open Cert.ReferenceIdeal Cert.ReferenceIdeal.Gen Cert.Windows Idealize.ShloMosaic Idealize.ShloMosaic.TcCoe Idealize.SL.Sem

/-- The float pattern 0x42BE0000 is the number 95. -/
theorem pattern_95 : Ideal.ofBits .f32 0x42BE0000#32 = ((95 : ℝ) : EReal) := by
  simp [Ideal.ofBits, Ideal.ieee, -EReal.coe_mul]; norm_num

/-- The word of a natural number below 2³¹, converted to a float, is that number. -/
theorem float_word (n : ℕ) (hn : n < 2 ^ 31) :
    (FloatOps.sitofp .f32 (BitVec.ofNat 32 n) : Ideal .f32) = (((n : ℕ) : ℝ) : EReal) := by
  show (((BitVec.ofNat 32 n).toInt : ℝ) : EReal) = _
  rw [WordCmp.toInt_ofNat_of_lt (by omega)]; norm_cast

/-- Step `k` is k/95. -/
theorem steps_apply (k : Fin 95) : steps (ix1 k) = (((k.val : ℝ) / 95 : ℝ) : EReal) := by
  pointwise [steps]
  rw [pattern_95, float_word k.val (by omega), Ideal.div_coe (by norm_num), ← EReal.coe_mul]
  congr 1; ring

/-- The evenly spaced number `k` is 7936·k/95. -/
theorem spaced_apply (k : Fin 96) : spaced (ix1 k) = ((7936 * ((k.val : ℝ) / 95) : ℝ) : EReal) := by
  pointwise [spaced]
  have e7936 : (FloatOps.sitofp .f32 7936#32 : Ideal .f32) = ((7936 : ℝ) : EReal) := by
    exact_mod_cast float_word 7936 (by norm_num)
  rw [e7936]
  split
  · rw [steps_apply]
    have : (id (constant (F := Ideal) S_ FTy.f32 0#32) ix0 : EReal) = 0 := Ideal.ofBits_zero_f32
    rw [this, zero_mul, zero_add, ← EReal.coe_mul]
  · have hk : k.val = 95 := by omega
    rw [hk]; congr 1; norm_num

/-- The word of entry `t` of window `p` is the start of the window plus `t`. -/
theorem places_apply (p : Fin 96) (t : Fin 256) : places (ix2 p t) = BitVec.ofNat 32 (start p.val + t.val) := by
  pointwise [places]
  rw [spaced_apply]
  have h := word_near _ (start p.val) (by have := start_le p.val p.isLt; omega) (near_start p.val)
  show IntOp.addi (Ideal.fptosi 32 _) _ = _
  rw [h]
  show BitVec.ofNat 32 _ + BitVec.ofNat 32 _ = _
  rw [BitVec.ofNat_add]

/-- The start of a window plus an offset is below 8192. -/
theorem place_lt (p : Fin 96) (t : Fin 256) : start p.val + t.val < 8192 := by
  have := start_le p.val p.isLt
  omega

/-- Adding 8192 where a word is negative leaves the word of a natural number below 8192 as it is. -/
theorem wrap_word (n : ℕ) (hn : n < 8192) (a : BitVec 32) :
    Scalar.select (IntOp.cmpi CmpIPredicate.slt (BitVec.ofNat 32 n) 0#32) a (BitVec.ofNat 32 n) = BitVec.ofNat 32 n :=
  Routing.wrap_of_lt _ _ (by rw [BitVec.toNat_ofNat]; omega)

/-- The scatters' index `q` is the word of `pos q`. -/
theorem rowIdx_apply (q : Fin 24576) : rowIdx (ix2 q 0) = BitVec.ofNat 32 (pos q.val) := by
  pointwise [rowIdx, row]
  rw [places_apply]
  exact wrap_word _ (place_lt _ _) _

/-- The gather's index at window `p`, entry `t` is the word of the start of the window plus `t`. -/
theorem takeIdx_apply (p : Fin 96) (t : Fin 256) : takeIdx (ix3 p t 0) = BitVec.ofNat 32 (start p.val + t.val) := by
  pointwise [takeIdx]
  rw [places_apply]
  exact wrap_word _ (place_lt _ _) _

/-- Every gather index lies in the array. -/
theorem inside_apply (p : Fin 96) (t : Fin 256) : inside (ix2 p t) = 1#1 := by
  unfold inside
  refine Host.reduce_andi_one _ _ _ _ _ rfl fun i => ?_
  obtain ⟨a, b, e, rfl⟩ : ∃ (a : Fin 96) (b : Fin 256) (e : Fin 1), i = ix3 a b e := ⟨i 0, i 1, i 2, eq_ix3 i⟩
  obtain rfl : e = 0 := Subsingleton.elim _ _
  pointwise
  rw [takeIdx_apply]
  have h := place_lt a b
  generalize start a.val + b.val = n at h
  rw [WordCmp.cmpi_sge_eq, WordCmp.cmpi_sle_eq, WordCmp.toInt_ofNat_of_lt (by omega : n < 2 ^ (32 - 1)), WordCmp.andi_ofBool,
    WordCmp.ofBool_eq_one_iff, Bool.and_eq_true, decide_eq_true_iff, decide_eq_true_iff]
  exact ⟨by simp, by simp; omega⟩

end Cert.ReferenceIdeal.Pieces

end
-- ==== Proof.RefWindows.lean ====
/- The values that the reference scatters back: entry `q` of the windows laid end to end is the argument at the place
   `pos q`. -/
module

public import proofs.«01_k».proof.Proof.RefIndex

@[expose] public section

set_option maxRecDepth 16384

noncomputable section

namespace Cert.ReferenceIdeal.Pieces

open Cert.ReferenceIdeal Cert.ReferenceIdeal.Gen Cert.Windows Idealize.ShloMosaic Idealize.ShloMosaic.TcCoe Idealize.SL.Sem

/-- The gather at (batch, channel, window, entry) reads the argument at that batch and channel, at the place that the
    window's start plus the entry names. -/
theorem gather_apply (x : FVec Ideal S16x128x8192 .f32) (b : Fin 16) (c : Fin 128) (p : Fin 96) (t : Fin 256) :
    Host.gather gather_S16x128x8192_S96x256x1_S16x128x96x256_01_2_n_n_2_2_161281 x takeIdx (ix4 b c p t)
      = x (ix3 b c ⟨start p.val + t.val, place_lt p t⟩) := by
  unfold Host.gather
  congr 1
  funext a
  refine Fin.ext ?_
  let d := gather_S16x128x8192_S96x256x1_S16x128x96x256_01_2_n_n_2_2_161281
  show d.start (ix4 b c p t) takeIdx a + d.batchCoord (ix4 b c p t) a + d.offCoord (ix4 b c p t) a = _
  rw [GatherDims.batchCoord_eq_zero _ _ _ List.not_mem_nil, Nat.add_zero]
  match a with
  | ⟨0, _⟩ => exact (show 0 + b.val = b.val from Nat.zero_add _)
  | ⟨1, _⟩ => exact (show 0 + c.val = c.val from Nat.zero_add _)
  | ⟨2, _⟩ =>
    show d.start (ix4 b c p t) takeIdx 2 + d.offCoord (ix4 b c p t) 2 = start p.val + t.val
    rw [GatherDims.offCoord_eq_zero _ _ _ (fun h => ((GatherDims.mem_sKept _ _).mp h).1 (List.mem_singleton.mpr rfl)), Nat.add_zero]
    unfold GatherDims.start
    rw [dif_pos (show (2 : Fin 3) ∈ d.startIndexMap from List.mem_singleton.mpr rfl)]
    have hs : d.siIdx (ix4 b c p t) ⟨List.idxOf (2 : Fin 3) d.startIndexMap,
        List.idxOf_lt_length_iff.2 (List.mem_singleton.mpr rfl)⟩ = ix3 p t 0 := by
      funext e; refine Fin.ext ?_
      match e with
      | ⟨0, _⟩ => rfl
      | ⟨1, _⟩ => rfl
      | ⟨2, _⟩ => rfl
    have h := place_lt p t
    show min (takeIdx (d.siIdx (ix4 b c p t) ⟨List.idxOf (2 : Fin 3) d.startIndexMap, _⟩)).toInt.toNat (8192 - 1) = start p.val + t.val
    rw [hs, takeIdx_apply, WordCmp.toInt_ofNat_of_lt (by omega), Int.toNat_natCast]
    omega

/-- A window taken out holds the argument's elements from the window's start on. -/
theorem taken_apply (x : FVec Ideal S16x128x8192 .f32) (b : Fin 16) (c : Fin 128) (p : Fin 96) (t : Fin 256) :
    taken x (ix4 b c p t) = x (ix3 b c ⟨start p.val + t.val, place_lt p t⟩) := by
  pointwise [taken]
  rw [inside_apply, gather_apply]
  rfl

/-- The value scattered back by entry `q` is the argument at the place `pos q`. -/
theorem values_apply (x : FVec Ideal S16x128x8192 .f32) (b : Fin 16) (c : Fin 128) (q : Fin 24576) :
    values x (ix3 b c q) = x (ix3 b c ⟨pos q.val, pos_lt q.val q.isLt⟩) := by
  pointwise [values]
  rw [taken_apply]
  rfl

end Cert.ReferenceIdeal.Pieces

end
-- ==== Proof.RefValue.lean ====
/- The reference's result: at each place the sum of n copies of one element divided by n, which is that element; so
   the result is the argument with its last two axes exchanged. -/
module

public import proofs.«01_k».proof.Proof.RefWindows

@[expose] public section

set_option maxRecDepth 16384

noncomputable section

namespace Cert.ReferenceIdeal.Pieces

open Cert.ReferenceIdeal Cert.ReferenceIdeal.Gen Cert.Windows Idealize.ShloMosaic Idealize.ShloMosaic.TcCoe Idealize.SL.Sem

/-- The entries, of the windows laid end to end, that read place `l`. -/
def hits (l : Fin 8192) : Finset (Fin 24576) := Finset.univ.filter fun q => pos q.val = l.val

/-- At least one entry reads each place. -/
theorem hits_pos (l : Fin 8192) : 1 ≤ (hits l).card := by
  obtain ⟨q, hq, e⟩ := pos_onto l.val l.isLt
  exact Finset.card_pos.mpr ⟨⟨q, hq⟩, Finset.mem_filter.mpr ⟨Finset.mem_univ _, e⟩⟩

/-- The scatters' index word `q`, read signed, is `pos q`. -/
theorem rowIdx_toInt (q : Fin 24576) : (rowIdx (ix2 q 0)).toInt = (pos q.val : ℤ) := by
  have := pos_lt q.val q.isLt
  rw [rowIdx_apply, WordCmp.toInt_ofNat_of_lt (by omega)]

/-- The value of (batch, channel, entry) is scattered to (that batch, that channel, the place the entry reads). -/
theorem lands_sums (b b' : Fin 16) (c c' : Fin 128) (q : Fin 24576) (l : Fin 8192) :
    scatter_S16x128x8192_S24576x1_S16x128x24576_01_2_2_1.resultIdx? (ix3 b' c' q) rowIdx = some (ix3 b c l)
      ↔ b' = b ∧ c' = c ∧ pos q.val = l.val := by
  let d := scatter_S16x128x8192_S24576x1_S16x128x24576_01_2_2_1
  have hs : d.siIdx (ix3 b' c' q) ⟨List.idxOf (2 : Fin 3) d.scatterDimsToOperandDims,
      List.idxOf_lt_length_iff.2 (List.mem_singleton.mpr rfl)⟩ = ix2 q 0 := by
    funext e; refine Fin.ext ?_
    match e with
    | ⟨0, _⟩ => rfl
    | ⟨1, _⟩ => rfl
  have e0 : d.start (ix3 b' c' q) rowIdx 0 + (d.window (ix3 b' c' q) 0 : ℤ) = (b'.val : ℤ) := by
    show (0 : ℤ) + (b'.val : ℤ) = _
    exact zero_add _
  have e1 : d.start (ix3 b' c' q) rowIdx 1 + (d.window (ix3 b' c' q) 1 : ℤ) = (c'.val : ℤ) := by
    show (0 : ℤ) + (c'.val : ℤ) = _
    exact zero_add _
  have e2 : d.start (ix3 b' c' q) rowIdx 2 + (d.window (ix3 b' c' q) 2 : ℤ) = (pos q.val : ℤ) := by
    show (rowIdx (d.siIdx (ix3 b' c' q) ⟨List.idxOf (2 : Fin 3) d.scatterDimsToOperandDims, _⟩)).toInt + ((0 : ℕ) : ℤ) = _
    rw [hs, rowIdx_toInt, Nat.cast_zero, add_zero]
  rw [Routing.resultIdx?_eq_some]
  constructor
  · intro h
    refine ⟨Fin.ext ?_, Fin.ext ?_, ?_⟩
    · have := e0.symm.trans (h 0); exact Int.ofNat.inj this
    · have := e1.symm.trans (h 1); exact Int.ofNat.inj this
    · have := e2.symm.trans (h 2); exact Int.ofNat.inj this
  · rintro ⟨rfl, rfl, h⟩ a
    match a with
    | ⟨0, _⟩ => exact e0
    | ⟨1, _⟩ => exact e1
    | ⟨2, _⟩ => exact e2.trans (congrArg Int.ofNat h)

/-- The one of entry `q` is scattered to the place the entry reads. -/
theorem lands_counts (q : Fin 24576) (l : Fin 8192) :
    scatter_S8192_S24576x1_S24576_n_0_0_1.resultIdx? (ix1 q) rowIdx = some (ix1 l) ↔ pos q.val = l.val := by
  let d := scatter_S8192_S24576x1_S24576_n_0_0_1
  have hs : d.siIdx (ix1 q) ⟨List.idxOf (0 : Fin 1) d.scatterDimsToOperandDims,
      List.idxOf_lt_length_iff.2 (List.mem_singleton.mpr rfl)⟩ = ix2 q 0 := by
    funext e; refine Fin.ext ?_
    match e with
    | ⟨0, _⟩ => rfl
    | ⟨1, _⟩ => rfl
  have e0 : d.start (ix1 q) rowIdx 0 + (d.window (ix1 q) 0 : ℤ) = (pos q.val : ℤ) := by
    show (rowIdx (d.siIdx (ix1 q) ⟨List.idxOf (0 : Fin 1) d.scatterDimsToOperandDims, _⟩)).toInt + ((0 : ℕ) : ℤ) = _
    rw [hs, rowIdx_toInt, Nat.cast_zero, add_zero]
  rw [Routing.resultIdx?_eq_some]
  constructor
  · intro h
    have := e0.symm.trans (h 0); exact Int.ofNat.inj this
  · intro h a
    match a with
    | ⟨0, _⟩ => exact e0.trans (congrArg Int.ofNat h)

/-- The sum at (batch, channel, place) is the argument's element there, once for each entry that reads the place. -/
theorem sums_apply (x : FVec Ideal S16x128x8192 .f32) (b : Fin 16) (c : Fin 128) (l : Fin 8192) :
    sums x (ix3 b c l) = (((hits l).card : ℝ) : EReal) * x (ix3 b c l) := by
  show (broadcastInDim S16x128x8192 ![] bcast_S_S16x128x8192 (constant (F := Ideal) S_ .f32 0x00000000#32)) (ix3 b c l)
    + ∑ j ∈ Finset.univ.filter (fun j => scatter_S16x128x8192_S24576x1_S16x128x24576_01_2_2_1.resultIdx? j rowIdx = some (ix3 b c l)),
      values x j = _
  have hz : (broadcastInDim S16x128x8192 ![] bcast_S_S16x128x8192 (constant (F := Ideal) S_ .f32 0x00000000#32)) (ix3 b c l)
      = (0 : EReal) := Ideal.ofBits_zero_f32
  have hsum : ∑ j ∈ Finset.univ.filter (fun j => scatter_S16x128x8192_S24576x1_S16x128x24576_01_2_2_1.resultIdx? j rowIdx = some (ix3 b c l)),
      values x j = ∑ q ∈ hits l, (x (ix3 b c l) : EReal) := by
    refine Finset.sum_nbij' (fun j => j 2) (fun q => ix3 b c q) ?_ ?_ ?_ ?_ ?_
    · intro j hj
      obtain ⟨b', c', q, rfl⟩ : ∃ (b' : Fin 16) (c' : Fin 128) (q : Fin 24576), j = ix3 b' c' q := ⟨j 0, j 1, j 2, eq_ix3 j⟩
      exact Finset.mem_filter.mpr ⟨Finset.mem_univ _, ((lands_sums ..).mp (Finset.mem_filter.mp hj).2).2.2⟩
    · intro q hq
      exact Finset.mem_filter.mpr ⟨Finset.mem_univ _, (lands_sums ..).mpr ⟨rfl, rfl, (Finset.mem_filter.mp hq).2⟩⟩
    · intro j hj
      obtain ⟨b', c', q, rfl⟩ : ∃ (b' : Fin 16) (c' : Fin 128) (q : Fin 24576), j = ix3 b' c' q := ⟨j 0, j 1, j 2, eq_ix3 j⟩
      obtain ⟨rfl, rfl, _⟩ := (lands_sums ..).mp (Finset.mem_filter.mp hj).2
      rfl
    · intro q _
      rfl
    · intro j hj
      obtain ⟨b', c', q, rfl⟩ : ∃ (b' : Fin 16) (c' : Fin 128) (q : Fin 24576), j = ix3 b' c' q := ⟨j 0, j 1, j 2, eq_ix3 j⟩
      obtain ⟨rfl, rfl, h⟩ := (lands_sums ..).mp (Finset.mem_filter.mp hj).2
      rw [values_apply]
      congr 2
      exact Fin.ext h
  rw [hz, hsum, zero_add, Finset.sum_const, EReal.nsmul_eq_mul, EReal.coe_coe_eq_natCast]

/-- The count at a place is the number of entries that read it. -/
theorem counts_apply (l : Fin 8192) : counts (ix1 l) = (((hits l).card : ℝ) : EReal) := by
  show (broadcastInDim S8192 ![] bcast_S_S8192 (constant (F := Ideal) S_ .f32 0x00000000#32)) (ix1 l)
    + ∑ j ∈ Finset.univ.filter (fun j => scatter_S8192_S24576x1_S24576_n_0_0_1.resultIdx? j rowIdx = some (ix1 l)),
      (broadcastInDim S24576 ![] bcast_S_S24576 (constant (F := Ideal) S_ .f32 0x3F800000#32)) j = _
  have hz : (broadcastInDim S8192 ![] bcast_S_S8192 (constant (F := Ideal) S_ .f32 0x00000000#32)) (ix1 l)
      = (0 : EReal) := Ideal.ofBits_zero_f32
  have hsum : ∑ j ∈ Finset.univ.filter (fun j => scatter_S8192_S24576x1_S24576_n_0_0_1.resultIdx? j rowIdx = some (ix1 l)),
      (broadcastInDim S24576 ![] bcast_S_S24576 (constant (F := Ideal) S_ .f32 0x3F800000#32)) j = ∑ q ∈ hits l, (1 : EReal) := by
    refine Finset.sum_nbij' (fun j => j 0) (fun q => ix1 q) ?_ ?_ ?_ ?_ ?_
    · intro j hj
      obtain ⟨q, rfl⟩ : ∃ q : Fin 24576, j = ix1 q := ⟨j 0, eq_ix1 j⟩
      exact Finset.mem_filter.mpr ⟨Finset.mem_univ _, (lands_counts ..).mp (Finset.mem_filter.mp hj).2⟩
    · intro q hq
      exact Finset.mem_filter.mpr ⟨Finset.mem_univ _, (lands_counts ..).mpr (Finset.mem_filter.mp hq).2⟩
    · intro j _
      exact (eq_ix1 j).symm
    · intro q _
      rfl
    · intro j _
      exact Ideal.ofBits_one_f32
  rw [hz, hsum, zero_add, Finset.sum_const, EReal.nsmul_eq_mul, mul_one, EReal.coe_coe_eq_natCast]

/-- n copies of an extended real, divided by n, are that extended real, the infinities included. -/
theorem average (n : ℕ) (hn : 1 ≤ n) (v : EReal) : Ideal.div (((n : ℝ) : EReal) * v) (max 1 ((n : ℝ) : EReal)) = v := by
  have h1 : (1 : EReal) ≤ ((n : ℝ) : EReal) := by exact_mod_cast hn
  have h0 : (n : ℝ) ≠ 0 := by positivity
  rw [max_eq_right h1, Ideal.div_coe h0, mul_comm, ← mul_assoc, ← EReal.coe_mul, one_div, inv_mul_cancel₀ h0]
  exact one_mul v

/-- The reference's result at (batch, place, channel) is the argument at (batch, channel, place). -/
theorem result_apply (x : FVec Ideal S16x128x8192 .f32) (b : Fin 16) (l : Fin 8192) (c : Fin 128) :
    result x (ix3 b l c) = x (ix3 b c l) := by
  pointwise [result]
  rw [sums_apply, counts_apply, show (id (constant (F := Ideal) S_ FTy.f32 0x3F800000#32) ix0 : EReal) = 1 from Ideal.ofBits_one_f32]
  exact average _ (hits_pos l) _

end Cert.ReferenceIdeal.Pieces

end
-- ==== Proof.Equation.lean ====
/- The equation between the two programs: the reference's result at its argument is what the kernel leaves in its
   result array at the same argument. -/
module

public import proofs.«01_k».proof.Proof.KernelValue
public import proofs.«01_k».proof.Proof.RefValue

@[expose] public section

noncomputable section

namespace Cert.Equation

open Idealize.ShloMosaic

/-- The reference's result is its argument with the last two axes exchanged. -/
theorem result_eq (x : FVec Ideal Cert.ReferenceIdeal.S16x128x8192 .f32) :
    Cert.ReferenceIdeal.Pieces.result x = Cert.KernelIdeal.Tiles.turned x := by
  funext i
  obtain ⟨b, l, c, rfl⟩ : ∃ (b : Fin 16) (l : Fin 8192) (c : Fin 128), i = ix3 b l c := ⟨i 0, i 1, i 2, eq_ix3 i⟩
  exact Cert.ReferenceIdeal.Pieces.result_apply x b l c

end Cert.Equation

end
-- ==== Proof.lean ====
/- The proof of the claims about this kernel: the kernel, the kernel read at the extended reals and the reference each run to the end
   and leave their argument and their semaphores as they must; the kernel read at the extended reals is the kernel; and from equal
   arguments the kernel and the reference leave equal results, the argument with its last two axes exchanged. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- The reference runs to the end, leaves its argument as it was, and every semaphore counter ends at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments, the kernel and the reference both leave the argument with its last two axes exchanged. -/
theorem same_result : Cert.algebraic_KernelIdeal_ReferenceIdeal := by
  intro m ρ m' ρ' _ hagree
  refine ⟨fun c => Cert.KernelIdeal.Tiles.turned (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Tiles.final_value m c), (h c).2⟩)
      (Cert.KernelIdeal.Value.run_blocks (F := Ideal) m ρ)
  · exact (θ_run Cert.ReferenceIdeal.defs _ _).mono
      (fun r h c => ⟨(h c).1.trans ((Cert.ReferenceIdeal.Pieces.out_eq m' c).trans
        ((Cert.Equation.result_eq _).trans (congrArg Cert.KernelIdeal.Tiles.turned (hagree c)))), (h c).2⟩)
      (Cert.ReferenceIdeal.Value.run (F := Ideal) m' ρ')

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_result⟩

end Cert.Proof

end
